-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x3072x1152 : Shape := ⟨3, ![3, 3072, 1152]⟩
abbrev S1152x1920 : Shape := ⟨2, ![1152, 1920]⟩
abbrev S9x15 : Shape := ⟨2, ![9, 15]⟩
abbrev S3x3072x1920 : Shape := ⟨3, ![3, 3072, 1920]⟩
abbrev S9x15x128 : Shape := ⟨3, ![9, 15, 128]⟩
abbrev S9x1920 : Shape := ⟨2, ![9, 1920]⟩
abbrev S9216x1152 : Shape := ⟨2, ![9216, 1152]⟩
abbrev S9216x1920 : Shape := ⟨2, ![9216, 1920]⟩
abbrev S9216x9 : Shape := ⟨2, ![9216, 9]⟩
abbrev S256x1152 : Shape := ⟨2, ![256, 1152]⟩
abbrev S256x1920 : Shape := ⟨2, ![256, 1920]⟩
abbrev S256x9 : Shape := ⟨2, ![256, 9]⟩
abbrev S256x128 : Shape := ⟨2, ![256, 128]⟩
abbrev S256 : Shape := ⟨1, ![256]⟩
abbrev S256x1 : Shape := ⟨2, ![256, 1]⟩
abbrev S1x253 : Shape := ⟨2, ![1, 253]⟩
abbrev S256x253 : Shape := ⟨2, ![256, 253]⟩
abbrev S128x1920 : Shape := ⟨2, ![128, 1920]⟩
abbrev S1x1920 : Shape := ⟨2, ![1, 1920]⟩

abbrev nBuf : Space → Nat
  | .hbm => 11
  | .vmem => 12
  | .smem => 0
  | _ => 0

abbrev bufTy : (tb : Table) → Fin (tcTables nBuf tb) → BufTy
  | .hbm, ⟨0, _⟩ => ⟨S3x3072x1152, .bf16⟩
  | .hbm, ⟨1, _⟩ => ⟨S1152x1920, .fp8e4m3⟩
  | .hbm, ⟨2, _⟩ => ⟨S9x15, .f32⟩
  | .hbm, ⟨3, _⟩ => ⟨S3x3072x1920, .bf16⟩
  | .hbm, ⟨4, _⟩ => ⟨S9x15x128, .f32⟩
  | .hbm, ⟨5, _⟩ => ⟨S9x1920, .f32⟩
  | .hbm, ⟨6, _⟩ => ⟨S9216x1152, .bf16⟩
  | .hbm, ⟨7, _⟩ => ⟨S9216x1920, .bf16⟩
  | .hbm, ⟨8, _⟩ => ⟨S9216x1920, .bf16⟩
  | .hbm, ⟨9, _⟩ => ⟨S9216x1152, .fp8e4m3⟩
  | .hbm, ⟨10, _⟩ => ⟨S9216x9, .f32⟩
  | .local _ .vmem, ⟨0, _⟩ => ⟨S256x1152, .bf16⟩
  | .local _ .vmem, ⟨1, _⟩ => ⟨S256x1152, .bf16⟩
  | .local _ .vmem, ⟨2, _⟩ => ⟨S1152x1920, .fp8e4m3⟩
  | .local _ .vmem, ⟨3, _⟩ => ⟨S9x1920, .f32⟩
  | .local _ .vmem, ⟨4, _⟩ => ⟨S256x1920, .bf16⟩
  | .local _ .vmem, ⟨5, _⟩ => ⟨S256x1920, .bf16⟩
  | .local _ .vmem, ⟨6, _⟩ => ⟨S256x1920, .bf16⟩
  | .local _ .vmem, ⟨7, _⟩ => ⟨S256x1920, .bf16⟩
  | .local _ .vmem, ⟨8, _⟩ => ⟨S256x1152, .fp8e4m3⟩
  | .local _ .vmem, ⟨9, _⟩ => ⟨S256x1152, .fp8e4m3⟩
  | .local _ .vmem, ⟨10, _⟩ => ⟨S256x9, .f32⟩
  | .local _ .vmem, ⟨11, _⟩ => ⟨S256x9, .f32⟩
  | _, _ => ⟨S3x3072x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1152x1920 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S9x1920 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1920 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1920 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1152 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x9 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S3x3072x1152 : Shape := ⟨3, ![3, 3072, 1152]⟩
abbrev S1152x1920 : Shape := ⟨2, ![1152, 1920]⟩
abbrev S9x15 : Shape := ⟨2, ![9, 15]⟩
abbrev S3x3072x1920 : Shape := ⟨3, ![3, 3072, 1920]⟩
abbrev S9x15x128 : Shape := ⟨3, ![9, 15, 128]⟩
abbrev S9x1920 : Shape := ⟨2, ![9, 1920]⟩
abbrev S9216x1152 : Shape := ⟨2, ![9216, 1152]⟩
abbrev S9216x1920 : Shape := ⟨2, ![9216, 1920]⟩
abbrev S9216x9 : Shape := ⟨2, ![9216, 9]⟩
abbrev S9216x9x128 : Shape := ⟨3, ![9216, 9, 128]⟩
abbrev S9216x9x1 : Shape := ⟨3, ![9216, 9, 1]⟩
abbrev S1x1x252 : Shape := ⟨3, ![1, 1, 252]⟩
abbrev S9216x9x252 : Shape := ⟨3, ![9216, 9, 252]⟩
abbrev S9x9216x128 : Shape := ⟨3, ![9, 9216, 128]⟩
abbrev S9x128x1920 : Shape := ⟨3, ![9, 128, 1920]⟩
abbrev S9x9216x1920 : Shape := ⟨3, ![9, 9216, 1920]⟩
abbrev S9x9216x1 : Shape := ⟨3, ![9, 9216, 1]⟩
abbrev S9x1x1920 : Shape := ⟨3, ![9, 1, 1920]⟩

abbrev nBuf : Space → Nat
  | .hbm => 11
  | .vmem => 7
  | .smem => 0
  | _ => 0

abbrev bufTy : (tb : Table) → Fin (tcTables nBuf tb) → BufTy
  | .hbm, ⟨0, _⟩ => ⟨S3x3072x1152, .bf16⟩
  | .hbm, ⟨1, _⟩ => ⟨S1152x1920, .fp8e4m3⟩
  | .hbm, ⟨2, _⟩ => ⟨S9x15, .f32⟩
  | .hbm, ⟨3, _⟩ => ⟨S3x3072x1920, .bf16⟩
  | .hbm, ⟨4, _⟩ => ⟨S9x15x128, .f32⟩
  | .hbm, ⟨5, _⟩ => ⟨S9x1920, .f32⟩
  | .hbm, ⟨6, _⟩ => ⟨S9216x1152, .bf16⟩
  | .hbm, ⟨7, _⟩ => ⟨S9216x1920, .bf16⟩
  | .hbm, ⟨8, _⟩ => ⟨S9216x1920, .bf16⟩
  | .hbm, ⟨9, _⟩ => ⟨S9216x1152, .fp8e4m3⟩
  | .hbm, ⟨10, _⟩ => ⟨S9216x9, .f32⟩
  | .local _ .vmem, ⟨0, _⟩ => ⟨S9216x1152, .bf16⟩
  | .local _ .vmem, ⟨1, _⟩ => ⟨S1152x1920, .fp8e4m3⟩
  | .local _ .vmem, ⟨2, _⟩ => ⟨S9x1920, .f32⟩
  | .local _ .vmem, ⟨3, _⟩ => ⟨S9216x1920, .bf16⟩
  | .local _ .vmem, ⟨4, _⟩ => ⟨S9216x1920, .bf16⟩
  | .local _ .vmem, ⟨5, _⟩ => ⟨S9216x1152, .fp8e4m3⟩
  | .local _ .vmem, ⟨6, _⟩ => ⟨S9216x9, .f32⟩
  | _, _ => ⟨S3x3072x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S9216x1152 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1152x1920 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9x1920 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9216x1920 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S9216x1920 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S9216x1152 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S9216x9 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Group.lean ====
/-
  What the kernel's body computes for ONE group of 128 columns, stated once for all nine groups: the group's largest
  magnitude, the exponent of its scale, the scale, the codes, the product with the group's rows of the weights, and the
  term the group adds to the result. Then the three values the body stores, each written with these: the printed body
  spells every group out, cut into named values at different places in each, and the equations are by definition.
-/
module

public import proofs.«01_k».proof.Proof.Gen.KernelIdeal.Frame

@[expose] public section

set_option maxRecDepth 16384

noncomputable section

namespace Cert.KernelIdeal.Group

open Idealize.ShloMosaic Cert.KernelIdeal Cert.KernelIdeal.Gen

variable {F : FTy → Type} [FloatOps F]

/-- The largest magnitude of each row of a group. -/
def amax (s : FVec F S256x128 .f32) : FVec F S256x1 .f32 :=
  shapeCast S256x1 (multiReduction .maximumf [1] S256 (absf s) 0xFF800000#32 reduces_S256x128_S256 (.inl rfl) rfl) shapeCasts_S256_S256x1

/-- The words `0 << 23`, `1 << 23`, …, `252 << 23` read as floats. -/
def reach : FVec F S1x253 .f32 :=
  bitcastToFloat .f32 (shli (iota .tc S1x253 32 [1] iota_S1x253_d1_w32) (broadcast S1x253 23#32))

/-- One less than the number of those floats that the row's largest magnitude, divided by the largest code, reaches. -/
def field (a : FVec F S256x1 .f32) : IVec S256x1 32 :=
  subi (shapeCast S256x1 (multiReductionI .add [1] S256
      (select (cmpf .oge (broadcastTo S256x253 (mulf a (broadcast S256x1 (Scalar.ofBits .f32 0x3B124925#32))) broadcasts_S256x1_S256x253)
        (broadcastTo S256x253 (reach (F := F)) broadcasts_S1x253_S256x253))
        (broadcast S256x253 1#32) (broadcast S256x253 0#32)) 0#32 reduces_S256x253_S256 rfl) shapeCasts_S256_S256x1)
    (broadcast S256x1 1#32)

/-- The exponent of each row's scale. -/
def expo (a : FVec F S256x1 .f32) : IVec S256x1 32 :=
  select (cmpf .oeq a (broadcast S256x1 (Scalar.ofBits .f32 0x00000000#32))) (broadcast S256x1 0#32)
    (select (cmpf .olt (mulf a (broadcast S256x1 (Scalar.ofBits .f32 0x3B124925#32))) (broadcast S256x1 (Scalar.ofBits .f32 0x7F800000#32)))
      (select (cmpi .eq (field a) (broadcast S256x1 0#32)) (broadcast S256x1 0#32) (subi (field a) (broadcast S256x1 126#32)))
      (broadcast S256x1 0#32))

/-- Two to the power of each word, as the float whose exponent field is the word and 127. -/
def pow2 (e : IVec S256x1 32) : FVec F S256x1 .f32 :=
  bitcastToFloat .f32 (shli (addi e (broadcast S256x1 127#32)) (broadcast S256x1 23#32))

/-- The scale of each row of a group. -/
def scale (s : FVec F S256x128 .f32) : FVec F S256x1 .f32 := pow2 (expo (amax s))

/-- The codes of a group: each element times the inverse of its row's scale, clamped to the largest code. -/
def codes (s : FVec F S256x128 .f32) : FVec F S256x128 .fp8e4m3 :=
  truncf .fp8e4m3 (minimumf (broadcast S256x128 (Scalar.ofBits .f32 0x43E00000#32))
    (maximumf (broadcast S256x128 (Scalar.ofBits .f32 0xC3E00000#32))
      (mulf s (broadcastTo S256x128 (pow2 (subi (broadcast S256x1 0#32) (expo (amax s)))) broadcasts_S256x1_S256x128)))) bitsLt_fp8e4m3_f32

/-- The term a group adds to the result: the product of its codes with its rows of the weights, times the rows' scales,
    times the weights' scales. -/
def term (s : FVec F S256x128 .f32) (w : Vec F S128x1920 .fp8e4m3) (ws : Vec F S1x1920 .f32) : FVec F S256x1920 .f32 :=
  mulf (mulf (matmul (φ₁ := .fp8e4m3) (φ₂ := .fp8e4m3) dot_S256x128_S128x1920_S256x1920_1_0_0_1_n_n none (codes s) w
      (constant S256x1920 .f32 0x00000000#32)) (broadcastTo S256x1920 (scale s) broadcasts_S256x1_S256x1920))
    (broadcastTo S256x1920 (shapeCast S1x1920 ws shapeCasts_S1x1920_S1x1920) broadcasts_S1x1920_S256x1920)

/-- The block of activations in f32. -/
def wide (x : Vec F S256x1152 .bf16) : FVec F S256x1152 .f32 :=
  extf .f32 (shapeCast S256x1152 (show FVec F S256x1152 .bf16 from x) shapeCasts_S256x1152_S256x1152) bitsLt_bf16_f32

/-- Group 0's columns. -/
def g0 (x : Vec F S256x1152 .bf16) : FVec F S256x128 .f32 := extractStridedSlice S256x128 ![0, 0] (wide x) slices_S256x1152_o0_0_S256x128
/-- Group 1's columns. -/
def g1 (x : Vec F S256x1152 .bf16) : FVec F S256x128 .f32 := extractStridedSlice S256x128 ![0, 128] (wide x) slices_S256x1152_o0_128_S256x128
/-- Group 2's columns. -/
def g2 (x : Vec F S256x1152 .bf16) : FVec F S256x128 .f32 := extractStridedSlice S256x128 ![0, 256] (wide x) slices_S256x1152_o0_256_S256x128
/-- Group 3's columns. -/
def g3 (x : Vec F S256x1152 .bf16) : FVec F S256x128 .f32 := extractStridedSlice S256x128 ![0, 384] (wide x) slices_S256x1152_o0_384_S256x128
/-- Group 4's columns. -/
def g4 (x : Vec F S256x1152 .bf16) : FVec F S256x128 .f32 := extractStridedSlice S256x128 ![0, 512] (wide x) slices_S256x1152_o0_512_S256x128
/-- Group 5's columns. -/
def g5 (x : Vec F S256x1152 .bf16) : FVec F S256x128 .f32 := extractStridedSlice S256x128 ![0, 640] (wide x) slices_S256x1152_o0_640_S256x128
/-- Group 6's columns. -/
def g6 (x : Vec F S256x1152 .bf16) : FVec F S256x128 .f32 := extractStridedSlice S256x128 ![0, 768] (wide x) slices_S256x1152_o0_768_S256x128
/-- Group 7's columns. -/
def g7 (x : Vec F S256x1152 .bf16) : FVec F S256x128 .f32 := extractStridedSlice S256x128 ![0, 896] (wide x) slices_S256x1152_o0_896_S256x128
/-- Group 8's columns. -/
def g8 (x : Vec F S256x1152 .bf16) : FVec F S256x128 .f32 := extractStridedSlice S256x128 ![0, 1024] (wide x) slices_S256x1152_o0_1024_S256x128

variable (x0 : Vec F S256x1152 .bf16) (x1 : Vec F S1152x1920 .fp8e4m3) (x2 : Vec F S9x1920 .f32) (x3 : Vec F S256x1920 .bf16)

/-- The stored codes: nine pieces, each group's codes in its columns. -/
theorem out5_eq : out0_5 x0 x1 x2 x3 = View.canon [⟨r0_26, codes (g8 (View.ld x0 r0_0))⟩, ⟨r0_23, codes (g7 (View.ld x0 r0_0))⟩,
    ⟨r0_20, codes (g6 (View.ld x0 r0_0))⟩, ⟨r0_17, codes (g5 (View.ld x0 r0_0))⟩, ⟨r0_14, codes (g4 (View.ld x0 r0_0))⟩,
    ⟨r0_11, codes (g3 (View.ld x0 r0_0))⟩, ⟨r0_8, codes (g2 (View.ld x0 r0_0))⟩, ⟨r0_5, codes (g1 (View.ld x0 r0_0))⟩,
    ⟨r0_2, codes (g0 (View.ld x0 r0_0))⟩] := rfl

/-- The stored scales: the nine groups' side by side. -/
theorem out6_eq : out0_6 x0 x1 x2 x3 = View.canon [⟨r0_29, concatenate S256x9 1 [⟨S256x1, scale (g0 (View.ld x0 r0_0))⟩,
    ⟨S256x1, scale (g1 (View.ld x0 r0_0))⟩, ⟨S256x1, scale (g2 (View.ld x0 r0_0))⟩, ⟨S256x1, scale (g3 (View.ld x0 r0_0))⟩,
    ⟨S256x1, scale (g4 (View.ld x0 r0_0))⟩, ⟨S256x1, scale (g5 (View.ld x0 r0_0))⟩, ⟨S256x1, scale (g6 (View.ld x0 r0_0))⟩,
    ⟨S256x1, scale (g7 (View.ld x0 r0_0))⟩, ⟨S256x1, scale (g8 (View.ld x0 r0_0))⟩]
    concatenates_S256x1_S256x1_S256x1_S256x1_S256x1_S256x1_S256x1_S256x1_S256x1_S256x9_d1⟩] := rfl

/-- The sum of the nine groups' terms and the residual, narrowed: what the body stores as the result. -/
def total (x : Vec F S256x1152 .bf16) (x1 : Vec F S1152x1920 .fp8e4m3) (x2 : Vec F S9x1920 .f32) (r : Vec F S256x1920 .bf16) : FVec F S256x1920 .bf16 :=
  truncf .bf16 (addf (addf (addf (addf (addf (addf (addf (addf (addf (term (g0 x) (View.ld x1 r0_3) (View.ld x2 r0_4))
    (term (g1 x) (View.ld x1 r0_6) (View.ld x2 r0_7))) (term (g2 x) (View.ld x1 r0_9) (View.ld x2 r0_10)))
    (term (g3 x) (View.ld x1 r0_12) (View.ld x2 r0_13))) (term (g4 x) (View.ld x1 r0_15) (View.ld x2 r0_16)))
    (term (g5 x) (View.ld x1 r0_18) (View.ld x2 r0_19))) (term (g6 x) (View.ld x1 r0_21) (View.ld x2 r0_22)))
    (term (g7 x) (View.ld x1 r0_24) (View.ld x2 r0_25))) (term (g8 x) (View.ld x1 r0_27) (View.ld x2 r0_28)))
    (extf .f32 (shapeCast S256x1920 (show FVec F S256x1920 .bf16 from r) shapeCasts_S256x1920_S256x1920) bitsLt_bf16_f32)) bitsLt_bf16_f32

/-- The stored result. -/
theorem out4_eq : out0_4 x0 x1 x2 x3 = View.canon [⟨r0_1, total (View.ld x0 r0_0) x1 x2 (View.ld x3 r0_1)⟩] := rfl

end Cert.KernelIdeal.Group

end
-- ==== Proof.Scale.lean ====
/-
  The scale of a group, in numbers. The kernel counts the powers of two that the group's largest magnitude, divided by
  the largest code, reaches, makes the scale's exponent of the count, and assembles the scale and its inverse from their
  exponent fields. The reference takes the least power of two above the quotient and divides by it. Both are the same
  two numbers for every magnitude, `⊤` among them.
-/
module

public import Idealize.ShloMosaic.Lib.Pointwise
public import Mathlib.Data.BitVec

@[expose] public section

set_option maxRecDepth 16384

noncomputable section

namespace Cert.Quant

open Idealize.ShloMosaic

/-- Two to the power `z`. -/
def P (z : ℤ) : EReal := ((2 : ℝ) ^ z : ℝ)

/-- A larger power is larger. -/
theorem P_mono {y z : ℤ} (h : y ≤ z) : P y ≤ P z :=
  EReal.coe_le_coe_iff.mpr (zpow_le_zpow_right₀ (by norm_num) h)

/-- A power of two is positive. -/
theorem P_pos (z : ℤ) : 0 < P z := EReal.coe_pos.mpr (zpow_pos (by norm_num) z)

/-- The power zero is one. -/
theorem P_zero : P 0 = 1 := by simp [P]

/-- One divided by a power of two is the power of the negated exponent. -/
theorem div_P (z : ℤ) : Ideal.div 1 (P z) = P (-z) := by
  rw [Ideal.div, if_neg (P_pos z).ne', one_mul, P, P, zpow_neg, EReal.coe_inv]

/-- The fields of the word `j << 23`: sign clear, exponent field `j`, fraction zero. -/
theorem fields : ∀ j : Fin 255,
    (((BitVec.ofNat 32 j.1 <<< 23#32).extractLsb' (8 + 23) 1 == 1#1) = false) ∧
    ((BitVec.ofNat 32 j.1 <<< 23#32).extractLsb' 23 8).toNat = j.1 ∧
    ((BitVec.ofNat 32 j.1 <<< 23#32).extractLsb' 0 23).toNat = 0 := by decide +kernel

/-- The word `j << 23` read as a float. -/
def word (j : Nat) : EReal := Ideal.ofBits .f32 (IntOp.shli .vector (BitVec.ofNat 32 j) 23#32)

/-- The word `0 << 23` is zero. -/
theorem word_zero : word 0 = 0 := by
  obtain ⟨hs, he, hf⟩ := fields 0
  show Ideal.ieee 8 23 (IntOp.shli .vector (BitVec.ofNat 32 0) 23#32) = 0
  rw [IntOp.shli, if_pos (by decide)]
  simp only [Fin.coe_ofNat_eq_mod, Nat.zero_mod] at hs he hf
  simp only [Ideal.ieee, hs, he, hf]
  norm_num

/-- The word `j << 23` is two to the power `j - 127`. -/
theorem word_pos {j : Nat} (h0 : 0 < j) (h : j < 255) : word j = P (j - 127) := by
  obtain ⟨hs, he, hf⟩ := fields ⟨j, h⟩
  show Ideal.ieee 8 23 (IntOp.shli .vector (BitVec.ofNat 32 j) 23#32) = _
  rw [IntOp.shli, if_pos (by decide)]
  simp only at hs he hf
  simp only [Ideal.ieee, hs, he, hf]
  rw [if_neg (by omega), if_neg (by omega), P]
  refine congrArg (fun r : ℝ => (r : EReal)) ?_
  have e : ((j : ℤ) - 127) = 23 + ((j : ℤ) - (2 ^ (8 - 1) - 1) - 23) := by norm_num
  rw [e, zpow_add₀ (by norm_num)]
  norm_num

/-- The words grow. -/
theorem word_mono {i j : Nat} (h : i ≤ j) (hj : j < 255) : word i ≤ word j := by
  rcases Nat.eq_zero_or_pos i with rfl | hi
  · rw [word_zero]
    rcases Nat.eq_zero_or_pos j with rfl | hj0
    · rw [word_zero]
    · rw [word_pos hj0 hj]; exact (P_pos _).le
  · rw [word_pos hi (by omega), word_pos (by omega) hj]
    exact P_mono (by omega)

/-- The number that multiplies the largest magnitude: the printed inverse of the largest code. -/
def invMax : EReal := Ideal.ofBits .f32 991054117#32

/-- It is not negative. -/
theorem invMax_nonneg : 0 ≤ invMax := by
  show 0 ≤ Ideal.ieee 8 23 991054117#32
  have hs : ((991054117#32).extractLsb' (8 + 23) 1 == 1#1) = false := by decide
  have he : ((991054117#32).extractLsb' 23 8).toNat = 118 := by decide
  simp only [Ideal.ieee, hs, he]
  rw [if_neg (by norm_num), if_neg (by norm_num)]
  refine EReal.coe_nonneg.mpr (mul_nonneg (mul_nonneg (by norm_num) (by positivity)) (by positivity))

/-- One less than the number of words that the quotient reaches. -/
def fieldW (a : EReal) : BitVec 32 :=
  IntOp.subi (Finset.fold IntOp.addi (0#32) (fun x : Fin 253 =>
    if Ideal.ofBits .f32 (IntOp.shli .vector (BitVec.ofNat 32 ↑x) 23#32) ≤ a * Ideal.ofBits .f32 991054117#32 then 1#32 else 0#32)
    Finset.univ) 1#32

/-- The exponent of the kernel's scale. -/
def expoW (a : EReal) : BitVec 32 :=
  if a = 0 then 0#32 else if a * Ideal.ofBits .f32 991054117#32 < Ideal.ofBits .f32 2139095040#32 then
    Scalar.select (IntOp.cmpi .eq (fieldW a) 0#32) (0#32) (IntOp.subi (fieldW a) 126#32) else 0#32

/-- The kernel's scale. -/
def scaleK (a : EReal) : EReal := Ideal.ofBits .f32 (IntOp.shli .vector (IntOp.addi (expoW a) 127#32) 23#32)

/-- The kernel's inverse of the scale. -/
def invK (a : EReal) : EReal := Ideal.ofBits .f32 (IntOp.shli .vector (IntOp.addi (IntOp.subi 0#32 (expoW a)) 127#32) 23#32)

/-- The reference's scale: the least power of two above the quotient, one where the quotient is below all of them or
    infinite. -/
def scaleR (a : EReal) : EReal :=
  if a = 0 then 1 else if a * Ideal.ofBits .f32 991054117#32 < Ideal.ofBits .f32 2139095040#32 then
    if a * Ideal.ofBits .f32 991054117#32 < Ideal.ofBits .f32 8388608#32 then 1 else
    Finset.fold min (Ideal.ofBits .f32 2139095040#32) (fun x : Fin 252 =>
      if a * Ideal.ofBits .f32 991054117#32 < FloatOps.exp2 (F := Ideal) (φ := .f32) (FloatOps.sitofp (F := Ideal) .f32 (IntOp.subi (BitVec.ofNat 32 ↑x) 125#32)) then
        FloatOps.exp2 (F := Ideal) (φ := .f32) (FloatOps.sitofp (F := Ideal) .f32 (IntOp.subi (BitVec.ofNat 32 ↑x) 125#32))
      else Ideal.ofBits .f32 2122317824#32) Finset.univ
  else 1

/-- The powers the reference compares with: `2 ^ (j - 125)`. -/
theorem exp2_eq (j : Fin 252) :
    FloatOps.exp2 (F := Ideal) (φ := .f32) (FloatOps.sitofp (F := Ideal) .f32 (IntOp.subi (BitVec.ofNat 32 ↑j) 125#32)) = P ((j : ℕ) - 125) := by
  have h : ∀ j : Fin 252, (BitVec.ofNat 32 ↑j - 125#32).toInt = ((j : ℕ) : ℤ) - 125 := by decide +kernel
  show (((2 : ℝ).rpow (((BitVec.ofNat 32 ↑j - 125#32).toInt : ℝ)) : ℝ) : EReal) = _
  rw [h j, P]
  congr 1
  exact Real.rpow_intCast 2 _

/-- The pattern of the smallest normal number is the word `1 << 23`. -/
theorem least_eq : Ideal.ofBits .f32 8388608#32 = P (-126) := by
  have h := word_pos (j := 1) (by norm_num) (by norm_num)
  rw [show ((1 : ℕ) : ℤ) - 127 = -126 by norm_num] at h
  rw [← h]; rfl

/-- The pattern of `2 ^ 126` is the word `253 << 23`. -/
theorem last_eq : Ideal.ofBits .f32 2122317824#32 = P 126 := by
  have h := word_pos (j := 253) (by norm_num) (by norm_num)
  rw [show ((253 : ℕ) : ℤ) - 127 = 126 by norm_num] at h
  rw [← h]; rfl

/-- The pattern of infinity is `⊤`. -/
theorem top_eq : Ideal.ofBits .f32 2139095040#32 = ⊤ := by
  show Ideal.ieee 8 23 2139095040#32 = ⊤
  have hs : ((2139095040#32).extractLsb' (8 + 23) 1 == 1#1) = false := by decide
  have he : ((2139095040#32).extractLsb' 23 8).toNat = 255 := by decide
  have hf : ((2139095040#32).extractLsb' 0 23).toNat = 0 := by decide
  simp only [Ideal.ieee, hs, he, hf]
  norm_num

/-- A magnitude's quotient has an exponent field `f`: it reaches exactly the words `0 … f` of `0 … 252`. -/
theorem exists_field {a : EReal} (ha : 0 ≤ a) :
    ∃ f : Fin 253, ∀ j : Fin 253, word j ≤ a * invMax ↔ j ≤ f := by
  classical
  have hp : 0 ≤ a * invMax := mul_nonneg ha invMax_nonneg
  have h0 : word 0 ≤ a * invMax := by rw [word_zero]; exact hp
  let f := Nat.findGreatest (fun j => word j ≤ a * invMax) 252
  have hf : f ≤ 252 := Nat.findGreatest_le 252
  have hfw : word f ≤ a * invMax := Nat.findGreatest_spec (P := fun j => word j ≤ a * invMax) (Nat.zero_le 252) h0
  refine ⟨⟨f, by omega⟩, fun j => ⟨fun h => ?_, fun h => ?_⟩⟩
  · exact Nat.le_findGreatest (P := fun j => word j ≤ a * invMax) (by omega) h
  · exact (word_mono h (by show f < 255; omega)).trans hfw

/-- Counting the words up to `f`. -/
theorem count_eq (f : Fin 253) :
    Finset.fold IntOp.addi (0#32) (fun x : Fin 253 => if x ≤ f then 1#32 else 0#32) Finset.univ = BitVec.ofNat 32 (f.1 + 1) := by
  have h : Finset.fold IntOp.addi (0#32) (fun x : Fin 253 => if x ≤ f then 1#32 else 0#32) Finset.univ
      = ∑ x : Fin 253, if x ≤ f then (1 : BitVec 32) else 0 := rfl
  rw [h, Finset.sum_boole]
  have hc : (Finset.univ.filter fun x : Fin 253 => x ≤ f).card = f.1 + 1 := by
    rw [← Fin.card_Iic f]; congr 1; ext x; simp
  rw [hc]; rfl

/-- The kernel's field is the exponent field. -/
theorem fieldW_eq {a : EReal} {f : Fin 253} (hf : ∀ j : Fin 253, word j ≤ a * invMax ↔ j ≤ f) :
    fieldW a = BitVec.ofNat 32 f := by
  have h : fieldW a = IntOp.subi (Finset.fold IntOp.addi (0#32) (fun x : Fin 253 => if x ≤ f then 1#32 else 0#32) Finset.univ) 1#32 := by
    unfold fieldW
    congr 2
    funext x
    exact if_congr (hf x) rfl rfl
  rw [h, count_eq]
  have : ∀ f : Fin 253, IntOp.subi (BitVec.ofNat 32 (f.1 + 1)) 1#32 = BitVec.ofNat 32 f := by decide +kernel
  exact this f

/-- The scale and its inverse have these exponent fields. -/
theorem words : ∀ f : Fin 253, f.1 ≠ 0 →
    Scalar.select (IntOp.cmpi .eq (BitVec.ofNat 32 f) 0#32) (0#32) (IntOp.subi (BitVec.ofNat 32 f) 126#32) = BitVec.ofNat 32 f - 126#32 ∧
    IntOp.addi (BitVec.ofNat 32 f - 126#32) 127#32 = BitVec.ofNat 32 (f.1 + 1) ∧
    IntOp.addi (IntOp.subi 0#32 (BitVec.ofNat 32 f - 126#32)) 127#32 = BitVec.ofNat 32 (253 - f.1) := by decide +kernel

/-- Where the exponent is zero the kernel's scale and its inverse are one. -/
theorem of_expoW_zero {a : EReal} (h : expoW a = 0#32) : scaleK a = 1 ∧ invK a = 1 := by
  have h1 : word 127 = 1 := by
    rw [word_pos (by norm_num) (by norm_num), show ((127 : ℕ) : ℤ) - 127 = 0 by norm_num, P_zero]
  constructor
  · rw [scaleK, h]; exact h1
  · rw [invK, h]; exact h1

/-- The least of the reference's candidates, for a quotient of exponent field `f`. -/
theorem least {p : EReal} {f : Fin 253} (h0 : f.1 ≠ 0) (hf : ∀ j : Fin 253, word j ≤ p ↔ j ≤ f) :
    Finset.fold min (⊤ : EReal) (fun x : Fin 252 => if p < P ((x : ℕ) - 125) then P ((x : ℕ) - 125) else P 126) Finset.univ
      = P ((f : ℕ) - 126) := by
  apply le_antisymm
  · rw [Finset.fold_min_le]
    right
    refine ⟨⟨f.1 - 1, by omega⟩, Finset.mem_univ _, ?_⟩
    have e : (((f.1 - 1 : ℕ) : ℤ) - 125) = (f.1 : ℤ) - 126 := by omega
    simp only [e]
    split
    · exact le_rfl
    · rename_i hn
      by_cases hl : f.1 + 1 < 253
      · exfalso
        apply hn
        have := (hf ⟨f.1 + 1, hl⟩).not.mpr (by simp [Fin.le_def])
        rw [not_le, show word (⟨f.1 + 1, hl⟩ : Fin 253).1 = _ from word_pos (j := f.1 + 1) (by omega) (by omega)] at this
        convert this using 2
        push_cast; ring
      · exact P_mono (by omega)
  · rw [Finset.le_fold_min]
    refine ⟨le_top, fun x _ => ?_⟩
    split
    · rename_i hx
      apply P_mono
      by_contra hc
      have hx2 : x.1 + 2 < 253 := by omega
      have := (hf ⟨x.1 + 2, hx2⟩).mpr (by rw [Fin.le_def]; show x.1 + 2 ≤ f.1; omega)
      rw [show word (⟨x.1 + 2, hx2⟩ : Fin 253).1 = _ from word_pos (j := x.1 + 2) (by omega) (by omega)] at this
      rw [show (((x.1 + 2 : ℕ) : ℤ) - 127) = (x.1 : ℤ) - 125 by push_cast; ring] at this
      exact absurd hx (not_lt.mpr this)
    · exact P_mono (by omega)

/-- The kernel's scale of a magnitude is the reference's, and the kernel's inverse is one divided by it. -/
theorem scale_eq {a : EReal} (ha : 0 ≤ a) : scaleK a = scaleR a ∧ invK a = Ideal.div 1 (scaleR a) := by
  have d1 : Ideal.div 1 1 = 1 := by
    have h := div_P 0
    rwa [neg_zero, P_zero] at h
  by_cases h0 : a = 0
  · have hr : scaleR a = 1 := by rw [scaleR, if_pos h0]
    rw [hr, d1]
    exact of_expoW_zero (by rw [expoW, if_pos h0])
  by_cases hi : a * Ideal.ofBits .f32 991054117#32 < Ideal.ofBits .f32 2139095040#32
  swap
  · have hr : scaleR a = 1 := by rw [scaleR, if_neg h0, if_neg hi]
    rw [hr, d1]
    exact of_expoW_zero (by rw [expoW, if_neg h0, if_neg hi])
  obtain ⟨f, hf⟩ := exists_field ha
  have hw := fieldW_eq hf
  have h1 := hf 1
  rw [show word (1 : Fin 253).1 = P (-126) from (word_pos (j := 1) (by norm_num) (by norm_num)).trans (by norm_num)] at h1
  by_cases hz : f.1 = 0
  · have hlt : a * invMax < P (-126) := by
      rw [← not_le, h1, Fin.le_def, hz]; decide
    have hr : scaleR a = 1 := by
      rw [scaleR, if_neg h0, if_pos hi, if_pos (by rw [least_eq]; exact hlt)]
    rw [hr, d1]
    refine of_expoW_zero ?_
    rw [expoW, if_neg h0, if_pos hi, hw, hz]; decide
  · have hge : ¬ a * invMax < P (-126) := by
      rw [not_lt, h1, Fin.le_def]; show 1 ≤ f.1; omega
    obtain ⟨w0, w1, w2⟩ := words f hz
    have he : expoW a = BitVec.ofNat 32 f - 126#32 := by rw [expoW, if_neg h0, if_pos hi, hw, w0]
    have hr : scaleR a = P ((f : ℕ) - 126) := by
      rw [scaleR, if_neg h0, if_pos hi, if_neg (by rw [least_eq]; exact hge)]
      simp only [exp2_eq, last_eq, top_eq]
      exact least hz hf
    rw [hr, div_P]
    constructor
    · rw [scaleK, he, w1]
      refine (word_pos (j := f.1 + 1) (by omega) (by omega)).trans ?_
      congr 1; push_cast; ring
    · rw [invK, he, w2]
      refine (word_pos (j := 253 - f.1) (by omega) (by omega)).trans ?_
      congr 1; omega

end Cert.Quant

end
-- ==== Proof.Spec.lean ====
/-
  What both programs compute, as functions of one row of activations: the scale and the codes of each group of 128
  columns and the row's results.
-/
module

public import proofs.«01_k».proof.Proof.Scale

@[expose] public section

set_option maxRecDepth 16384

noncomputable section

namespace Cert.Quant

open Idealize.ShloMosaic

/-- The largest magnitude of 128 numbers. -/
def amx (f : Fin 128 → EReal) : EReal :=
  Finset.fold max (Ideal.ofBits .f32 4286578688#32) (fun k => FloatOps.absf (F := Ideal) (φ := .f32) (f k)) Finset.univ

/-- A largest magnitude is not negative. -/
theorem amx_nonneg (f : Fin 128 → EReal) : 0 ≤ amx f := by
  rw [amx, Finset.le_fold_max]
  right
  refine ⟨0, Finset.mem_univ _, ?_⟩
  show 0 ≤ max (f 0) (-(f 0))
  rcases le_total 0 (f 0) with h | h
  · exact le_max_of_le_left h
  · exact le_max_of_le_right (by simpa using EReal.neg_le_neg_iff.mpr h)

/-- Column `k` of group `g`. -/
def col (g : Fin 9) (k : Fin 128) : Fin 1152 := ⟨128 * g + k, by omega⟩

/-- The scale of 128 numbers. -/
def scaleOf (f : Fin 128 → EReal) : EReal := scaleR (amx f)

/-- The code of a number under a scale: the quotient, clamped to the largest code. -/
def codeOf (s v : EReal) : EReal :=
  min (Ideal.ofBits .f32 1138753536#32) (max (Ideal.ofBits .f32 3286237184#32) (v * Ideal.div 1 s))

/-- The scale of group `g` of a row. -/
def S (x : Fin 1152 → EReal) (g : Fin 9) : EReal := scaleOf fun k => x (col g k)

/-- The code of column `k` of group `g` of a row. -/
def C (x : Fin 1152 → EReal) (g : Fin 9) (k : Fin 128) : EReal := codeOf (S x g) (x (col g k))

/-- The term of group `g` in a row's result, for one column of the weights and of their scales. -/
def T (x w : Fin 1152 → EReal) (ws : Fin 9 → EReal) (g : Fin 9) : EReal :=
  (∑ k, C x g k * w (col g k)) * S x g * ws g

/-- A row's result in one column: the nine groups' terms and the residual. -/
def Y (x w : Fin 1152 → EReal) (ws : Fin 9 → EReal) (r : EReal) : EReal := (∑ g, T x w ws g) + r

/-- The codes by column. -/
def CC (x : Fin 1152 → EReal) (j : Fin 1152) : EReal := C x ⟨j / 128, by omega⟩ ⟨j % 128, by omega⟩

/-- The code of column `k` of group `g`, by its column. -/
theorem CC_col (x : Fin 1152 → EReal) (g : Fin 9) (k : Fin 128) : CC x (col g k) = C x g k := by
  unfold CC
  congr 1
  · ext; show (128 * g.1 + k.1) / 128 = g.1; omega
  · ext; show (128 * g.1 + k.1) % 128 = k.1; omega

/-- The three result arrays, from the arrays the kernels are called on. -/
structure Arrays where
  /-- the activations, one row for each token -/
  x : Fin 9216 → Fin 1152 → EReal
  /-- the weights' codes -/
  w : Fin 1152 → Fin 1920 → EReal
  /-- the weights' scales, one row for each group -/
  ws : Fin 9 → Fin 1920 → EReal
  /-- the residual -/
  res : Fin 9216 → Fin 1920 → EReal

/-- The arrays that the host makes of the arguments: activations and residual by token, the weights' scales repeated over
    their 128 columns. -/
def Arrays.of (x : Fin 3 → Fin 3072 → Fin 1152 → EReal) (w : Fin 1152 → Fin 1920 → EReal) (ws : Fin 9 → Fin 15 → EReal)
    (res : Fin 3 → Fin 3072 → Fin 1920 → EReal) : Arrays where
  x r j := x ⟨r / 3072, by omega⟩ ⟨r % 3072, by omega⟩ j
  w := w
  ws g l := ws g ⟨l / 128, by omega⟩
  res r l := res ⟨r / 3072, by omega⟩ ⟨r % 3072, by omega⟩ l

/-- The result array. -/
def Arrays.y (a : Arrays) (r : Fin 9216) (l : Fin 1920) : EReal := Y (a.x r) (fun j => a.w j l) (fun g => a.ws g l) (a.res r l)

/-- The array of codes. -/
def Arrays.codes (a : Arrays) (r : Fin 9216) (j : Fin 1152) : EReal := CC (a.x r) j

/-- The array of scales. -/
def Arrays.scales (a : Arrays) (r : Fin 9216) (g : Fin 9) : EReal := S (a.x r) g

end Cert.Quant

end
-- ==== Proof.Entry.lean ====
/-
  The kernel's body at an index, over the extended reals: the codes, the scales and the results that it stores, each as
  the row's functions of Proof/Spec.lean. The lemmas of one group are stated once and used for each of the nine.
-/
module

public import proofs.«01_k».proof.Proof.Group
public import proofs.«01_k».proof.Proof.Spec
public import Idealize.ShloMosaic.Lib.Pointwise

@[expose] public section

set_option maxRecDepth 16384

noncomputable section

namespace Cert.KernelIdeal.Group

open Idealize.ShloMosaic Cert.KernelIdeal Cert.KernelIdeal.Gen Cert.Quant

/-- A group's largest magnitude in row `r`. -/
theorem amax_apply (s : FVec Ideal S256x128 .f32) (r : Fin 256) (l : Fin 1) : amax s (ix2 r l) = amx fun k => s (ix2 r k) := by
  pointwise [amax]
  rfl

/-- The exponent of row `r`. -/
theorem expo_apply (a : FVec Ideal S256x1 .f32) (r : Fin 256) (l : Fin 1) : expo a (ix2 r l) = expoW (a (ix2 r l)) := by
  have hf : field a (ix2 r l) = fieldW (a (ix2 r l)) := by
    pointwise [field, reach]
    obtain rfl : l = 0 := Subsingleton.elim _ _
    rfl
  pointwise [expo]
  rw [hf]
  rfl

/-- A group's scale in row `r`. -/
theorem scale_apply (s : FVec Ideal S256x128 .f32) (r : Fin 256) (l : Fin 1) : scale s (ix2 r l) = scaleOf fun k => s (ix2 r k) := by
  pointwise [scale, pow2]
  rw [expo_apply, amax_apply]
  exact (scale_eq (amx_nonneg _)).1

/-- The inverse of a group's scale in row `r`. -/
theorem inv_apply (s : FVec Ideal S256x128 .f32) (r : Fin 256) (l : Fin 1) :
    pow2 (F := Ideal) (subi (broadcast S256x1 0#32) (expo (amax s))) (ix2 r l) = Ideal.div 1 (scaleOf fun k => s (ix2 r k)) := by
  pointwise [pow2]
  rw [expo_apply, amax_apply]
  exact (scale_eq (amx_nonneg _)).2

/-- A group's code in row `r` and column `l` of the group. -/
theorem codes_apply (s : FVec Ideal S256x128 .f32) (r : Fin 256) (l : Fin 128) :
    codes s (ix2 r l) = codeOf (scaleOf fun k => s (ix2 r k)) (s (ix2 r l)) := by
  pointwise [codes]
  rw [inv_apply]
  rfl

/-- A group's term in row `r` and column `l` of the result. -/
theorem term_apply (s : FVec Ideal S256x128 .f32) (w : Vec Ideal S128x1920 .fp8e4m3) (ws : Vec Ideal S1x1920 .f32) (r : Fin 256) (l : Fin 1920) :
    term s w ws (ix2 r l) = (∑ k, codeOf (scaleOf fun k => s (ix2 r k)) (s (ix2 r k)) * w (ix2 k l)) * (scaleOf fun k => s (ix2 r k)) * ws (ix2 0 l) := by
  pointwise [term]
  rw [scale_apply]
  simp only [codes_apply]

variable (x0 : Vec Ideal S256x1152 .bf16) (x1 : Vec Ideal S1152x1920 .fp8e4m3) (x2 : Vec Ideal S9x1920 .f32) (x3 : Vec Ideal S256x1920 .bf16)

/-- Row `r` of a block. -/
def row (r : Fin 256) (j : Fin 1152) : EReal := x0 (ix2 r j)

/-- Group `g` of the activations: its columns are the row's. -/
def IsGroup (s : FVec Ideal S256x128 .f32) (g : Fin 9) : Prop := ∀ (r : Fin 256) (l : Fin 128), s (ix2 r l) = row x0 r (col g l)

/-- Group 0's columns are the row's. -/
theorem isGroup0 : IsGroup x0 (g0 (View.ld x0 r0_0)) 0 := fun r l => by pointwise [g0, wide, row, col]
/-- Group 1's columns are the row's. -/
theorem isGroup1 : IsGroup x0 (g1 (View.ld x0 r0_0)) 1 := fun r l => by pointwise [g1, wide, row, col]
/-- Group 2's columns are the row's. -/
theorem isGroup2 : IsGroup x0 (g2 (View.ld x0 r0_0)) 2 := fun r l => by pointwise [g2, wide, row, col]
/-- Group 3's columns are the row's. -/
theorem isGroup3 : IsGroup x0 (g3 (View.ld x0 r0_0)) 3 := fun r l => by pointwise [g3, wide, row, col]
/-- Group 4's columns are the row's. -/
theorem isGroup4 : IsGroup x0 (g4 (View.ld x0 r0_0)) 4 := fun r l => by pointwise [g4, wide, row, col]
/-- Group 5's columns are the row's. -/
theorem isGroup5 : IsGroup x0 (g5 (View.ld x0 r0_0)) 5 := fun r l => by pointwise [g5, wide, row, col]
/-- Group 6's columns are the row's. -/
theorem isGroup6 : IsGroup x0 (g6 (View.ld x0 r0_0)) 6 := fun r l => by pointwise [g6, wide, row, col]
/-- Group 7's columns are the row's. -/
theorem isGroup7 : IsGroup x0 (g7 (View.ld x0 r0_0)) 7 := fun r l => by pointwise [g7, wide, row, col]
/-- Group 8's columns are the row's. -/
theorem isGroup8 : IsGroup x0 (g8 (View.ld x0 r0_0)) 8 := fun r l => by pointwise [g8, wide, row, col]

variable {x0}

/-- The scale of group `g`. -/
theorem IsGroup.scale {s : FVec Ideal S256x128 .f32} {g : Fin 9} (h : IsGroup x0 s g) (r : Fin 256) (l : Fin 1) :
    scale s (ix2 r l) = S (row x0 r) g := by
  rw [scale_apply]; simp only [h r]; rfl

/-- The codes of group `g`. -/
theorem IsGroup.codes {s : FVec Ideal S256x128 .f32} {g : Fin 9} (h : IsGroup x0 s g) (r : Fin 256) (l : Fin 128) :
    codes s (ix2 r l) = CC (row x0 r) (col g l) := by
  rw [codes_apply, CC_col]; simp only [h r]; rfl

/-- The term of group `g`, for the group's rows of the weights and its row of their scales. -/
theorem IsGroup.term {s : FVec Ideal S256x128 .f32} {g : Fin 9} (h : IsGroup x0 s g) {w : Vec Ideal S128x1920 .fp8e4m3} {ws : Vec Ideal S1x1920 .f32}
    (hw : ∀ k l, w (ix2 k l) = x1 (ix2 (col g k) l)) (hs : ∀ l, ws (ix2 0 l) = x2 (ix2 g l)) (r : Fin 256) (l : Fin 1920) :
    term s w ws (ix2 r l) = T (row x0 r) (fun j => x1 (ix2 j l)) (fun g => x2 (ix2 g l)) g := by
  rw [term_apply, hs]; simp only [h r, hw]; rfl

variable (x0)

/-- The offset of a block stored or loaded whole. -/
theorem zero_off : (![0, 0] : Fin 2 → Nat) = fun _ => 0 := by funext a; fin_cases a <;> rfl

/-- The stored scales. -/
theorem out6_apply (r : Fin 256) (g : Fin 9) : out0_6 x0 x1 x2 x3 (ix2 r g) = S (row x0 r) g := by
  rw [out6_eq, View.canon_unit_zero]
  case h => exact zero_off
  pointwise
  fin_vals g with hk
  all_goals simp only [hk, Nat.reduceSub, Nat.reduceLT, ↓reduceDIte]
  · obtain rfl : g = 0 := Fin.ext hk
    exact (isGroup0 x0).scale r _
  · obtain rfl : g = 1 := Fin.ext hk
    exact (isGroup1 x0).scale r _
  · obtain rfl : g = 2 := Fin.ext hk
    exact (isGroup2 x0).scale r _
  · obtain rfl : g = 3 := Fin.ext hk
    exact (isGroup3 x0).scale r _
  · obtain rfl : g = 4 := Fin.ext hk
    exact (isGroup4 x0).scale r _
  · obtain rfl : g = 5 := Fin.ext hk
    exact (isGroup5 x0).scale r _
  · obtain rfl : g = 6 := Fin.ext hk
    exact (isGroup6 x0).scale r _
  · obtain rfl : g = 7 := Fin.ext hk
    exact (isGroup7 x0).scale r _
  · obtain rfl : g = 8 := Fin.ext hk
    exact (isGroup8 x0).scale r _

/-- The stored result. -/
theorem out4_apply (r : Fin 256) (l : Fin 1920) :
    out0_4 x0 x1 x2 x3 (ix2 r l) = Y (row x0 r) (fun j => x1 (ix2 j l)) (fun g => x2 (ix2 g l)) (x3 (ix2 r l)) := by
  rw [out4_eq, View.canon_unit_zero]
  case h => exact zero_off
  pointwise [total]
  rw [(isGroup0 x0).term x1 x2, (isGroup1 x0).term x1 x2, (isGroup2 x0).term x1 x2, (isGroup3 x0).term x1 x2, (isGroup4 x0).term x1 x2,
    (isGroup5 x0).term x1 x2, (isGroup6 x0).term x1 x2, (isGroup7 x0).term x1 x2, (isGroup8 x0).term x1 x2]
  case hw => intro k l; pointwise [col]
  case hw => intro k l; pointwise [col]
  case hw => intro k l; pointwise [col]
  case hw => intro k l; pointwise [col]
  case hw => intro k l; pointwise [col]
  case hw => intro k l; pointwise [col]
  case hw => intro k l; pointwise [col]
  case hw => intro k l; pointwise [col]
  case hw => intro k l; pointwise [col]
  case hs => intro l; pointwise
  case hs => intro l; pointwise
  case hs => intro l; pointwise
  case hs => intro l; pointwise
  case hs => intro l; pointwise
  case hs => intro l; pointwise
  case hs => intro l; pointwise
  case hs => intro l; pointwise
  case hs => intro l; pointwise
  rw [Y]
  simp only [Fin.sum_univ_castSucc, Finset.univ_eq_empty, Finset.sum_empty, zero_add]
  rfl

/-- A stored piece of codes: group `g`'s, in the group's columns. -/
theorem piece {s : FVec Ideal S256x128 .f32} {g : Fin 9} (h : IsGroup x0 s g) {off : Fin 2 → Nat}
    (ho : off = ![0, 128 * g.1]) (inb : ∀ a, off a + S256x128.size a ≤ S256x1152.size a) (y : S256x128.Idx) :
    codes s y = CC (row x0 ((Rect.unit (s := S256x1152) off S256x128.size inb).idx y 0)) ((Rect.unit (s := S256x1152) off S256x128.size inb).idx y 1) := by
  subst ho
  idx_vars y
  rw [h.codes]
  congr 2
  · apply Fin.ext; simp
  · apply Fin.ext; simp [col]

/-- The stored codes. -/
theorem out5_apply (r : Fin 256) (j : Fin 1152) : out0_5 x0 x1 x2 x3 (ix2 r j) = CC (row x0 r) j := by
  rw [out5_eq]
  refine View.canon_apply_of_pieces (Val := Elt Ideal) (S := S256x1152) (e := .fp8e4m3) (fun i => CC (row x0 (i 0)) (i 1)) _ ?_ (ix2 r j) (cover0_5 _ _ _ _ _ _ _ _ _ _)
  intro pc hpc
  rcases List.mem_cons.mp hpc with rfl | hpc
  · exact fun y => piece x0 (isGroup8 x0) rfl inb_S256x1152_S256x128_0_1024 y
  rcases List.mem_cons.mp hpc with rfl | hpc
  · exact fun y => piece x0 (isGroup7 x0) rfl inb_S256x1152_S256x128_0_896 y
  rcases List.mem_cons.mp hpc with rfl | hpc
  · exact fun y => piece x0 (isGroup6 x0) rfl inb_S256x1152_S256x128_0_768 y
  rcases List.mem_cons.mp hpc with rfl | hpc
  · exact fun y => piece x0 (isGroup5 x0) rfl inb_S256x1152_S256x128_0_640 y
  rcases List.mem_cons.mp hpc with rfl | hpc
  · exact fun y => piece x0 (isGroup4 x0) rfl inb_S256x1152_S256x128_0_512 y
  rcases List.mem_cons.mp hpc with rfl | hpc
  · exact fun y => piece x0 (isGroup3 x0) rfl inb_S256x1152_S256x128_0_384 y
  rcases List.mem_cons.mp hpc with rfl | hpc
  · exact fun y => piece x0 (isGroup2 x0) rfl inb_S256x1152_S256x128_0_256 y
  rcases List.mem_cons.mp hpc with rfl | hpc
  · exact fun y => piece x0 (isGroup1 x0) rfl inb_S256x1152_S256x128_0_128 y
  rcases List.mem_cons.mp hpc with rfl | hpc
  · exact fun y => piece x0 (isGroup0 x0) rfl inb_S256x1152_S256x128_0_0 y
  nomatch hpc

end Cert.KernelIdeal.Group

end
-- ==== Proof.KernelValue.lean ====
/-
  The kernel's three result arrays after its run, over the extended reals: each block is what the body stores for its
  256 rows, and the 36 blocks fill the arrays.
-/
module

public import proofs.«01_k».proof.Proof.Entry
public import proofs.«01_k».proof.Proof.Gen.KernelIdeal.Value
public import Idealize.ShloMosaic.Lib.Pipeline.ValueKit
public import Idealize.ShloMosaic.Lib.StableHlo.ReadAt

@[expose] public section

set_option maxRecDepth 16384

noncomputable section

namespace Cert.KernelIdeal.RefValue

open Idealize.ShloMosaic Idealize.ShloMosaic.TcCoe Idealize.SL.Sem
open Idealize.ShloMosaic.Pipeline (Dat)
open Cert.KernelIdeal Cert.KernelIdeal.Gen Cert.KernelIdeal.Group Cert.Quant

variable (m : (ℓ : Loc nD τ sig) → Buf (Elt Ideal) ℓ) (ρ : Dev nD → PrngReg)

/-- The arrays the kernel is called on, from the arguments. -/
def arrays (c : Dev nD) : Arrays :=
  Arrays.of (fun a b j => m ((c : Thread nD τ).loc main_arg0) (ix3 a b j)) (fun j l => m ((c : Thread nD τ).loc main_arg1) (ix2 j l))
    (fun g k => m ((c : Thread nD τ).loc main_arg2) (ix2 g k)) (fun a b l => m ((c : Thread nD τ).loc main_arg3) (ix3 a b l))

/-- The activations the region finds. -/
theorem v2_eq (c : Dev nD) (r : Fin 9216) (j : Fin 1152) : V m c main_v2 (ix2 r j) = (arrays m c).x r j := by
  unfold V
  after_reads_at
  rfl

/-- The weights the region finds. -/
theorem arg1_eq (c : Dev nD) (j : Fin 1152) (l : Fin 1920) : V m c main_arg1 (ix2 j l) = (arrays m c).w j l := by
  rw [V_main_arg1]
  rfl

/-- The weights' scales the region finds. -/
theorem v1_eq (c : Dev nD) (g : Fin 9) (l : Fin 1920) : V m c main_v1 (ix2 g l) = (arrays m c).ws g l := by
  unfold V
  after_reads_at
  rfl

/-- The residual the region finds. -/
theorem v3_eq (c : Dev nD) (r : Fin 9216) (l : Fin 1920) : V m c main_v3 (ix2 r l) = (arrays m c).res r l := by
  unfold V
  after_reads_at
  rfl

/-- Row `r` of block `t` is row `256 t + r` of the array. -/
def gr (t : Fin cfg0.N) (r : Fin 256) : Fin 9216 := ⟨256 * t.val + r, by have := t.isLt; have h : cfg0.N = 36 := N_0; omega⟩

/-- The blocks of the activations go down the rows, -/
theorem e0 : ∀ t : Fin cfg0.N, win0_0.index t = ![t.val, 0] := (by decide +kernel : ∀ t : Fin grid0.N, win0_0.index t = ![t.val, 0])
/-- the weights have one, -/
theorem e1 : ∀ t : Fin cfg0.N, win0_1.index t = ![0, 0] := (by decide +kernel : ∀ t : Fin grid0.N, win0_1.index t = ![0, 0])
/-- and so have their scales; -/
theorem e2 : ∀ t : Fin cfg0.N, win0_2.index t = ![0, 0] := (by decide +kernel : ∀ t : Fin grid0.N, win0_2.index t = ![0, 0])
/-- those of the residual go down the rows, -/
theorem e3 : ∀ t : Fin cfg0.N, win0_3.index t = ![t.val, 0] := (by decide +kernel : ∀ t : Fin grid0.N, win0_3.index t = ![t.val, 0])
/-- and those of the result, -/
theorem e4 : ∀ t : Fin cfg0.N, win0_4.index t = ![t.val, 0] := (by decide +kernel : ∀ t : Fin grid0.N, win0_4.index t = ![t.val, 0])
/-- of the codes -/
theorem e5 : ∀ t : Fin cfg0.N, win0_5.index t = ![t.val, 0] := (by decide +kernel : ∀ t : Fin grid0.N, win0_5.index t = ![t.val, 0])
/-- and of the scales. -/
theorem e6 : ∀ t : Fin cfg0.N, win0_6.index t = ![t.val, 0] := (by decide +kernel : ∀ t : Fin grid0.N, win0_6.index t = ![t.val, 0])

/-- A block of the activations. -/
theorem iblk0 (c : Dev nD) (t : Fin cfg0.N) (r : Fin 256) (j : Fin 1152) :
    (iblk m c 0 t : Vec Ideal S256x1152 .bf16) (ix2 r j) = (arrays m c).x (gr t r) j := by
  rw [← v2_eq]
  blk_simp [iblk]
  congr 1
  blk_ext [e0, gr]

/-- The block of the weights. -/
theorem iblk1 (c : Dev nD) (t : Fin cfg0.N) (j : Fin 1152) (l : Fin 1920) :
    (iblk m c 1 t : Vec Ideal S1152x1920 .fp8e4m3) (ix2 j l) = (arrays m c).w j l := by
  rw [← arg1_eq]
  blk_simp [iblk]
  congr 1
  blk_ext [e1]

/-- The block of the weights' scales. -/
theorem iblk2 (c : Dev nD) (t : Fin cfg0.N) (g : Fin 9) (l : Fin 1920) :
    (iblk m c 2 t : Vec Ideal S9x1920 .f32) (ix2 g l) = (arrays m c).ws g l := by
  rw [← v1_eq]
  blk_simp [iblk]
  congr 1
  blk_ext [e2]

/-- A block of the residual. -/
theorem iblk3 (c : Dev nD) (t : Fin cfg0.N) (r : Fin 256) (l : Fin 1920) :
    (iblk m c 3 t : Vec Ideal S256x1920 .bf16) (ix2 r l) = (arrays m c).res (gr t r) l := by
  rw [← v3_eq]
  blk_simp [iblk]
  congr 1
  blk_ext [e3, gr]

/-- A row of a block of the activations. -/
theorem row_eq (c : Dev nD) (t : Fin cfg0.N) (r : Fin 256) : row (iblk m c 0 t) r = (arrays m c).x (gr t r) :=
  funext fun j => iblk0 m c t r j

/-- The array of scales. -/
theorem final6 (c : Dev nD) : (dats m 0 c).arrAt 6 cfg0.N = fun i : S9216x9.Idx => (arrays m c).scales (i 0) (i 1) := by
  refine (dats m 0 c).arrAt_eq_of_covers 6 _ (by decide +kernel) fun t hf y => ?_
  blk_simp
  rw [after0_6]
  obtain ⟨r, l, rfl⟩ : ∃ (r : Fin 256) (l : Fin 9), y = ix2 r l := ⟨y 0, y 1, by funext a; fin_cases a <;> rfl⟩
  refine (out6_apply _ _ _ _ r l).trans ?_
  rw [row_eq]
  have h0 : (win0_6.blk t).view.emb (ix2 r l) 0 = gr t r := Fin.ext (by blk_simp [e6]; show t.val * 256 + r.val = 256 * t.val + r.val; omega)
  have h1 : (win0_6.blk t).view.emb (ix2 r l) 1 = l := Fin.ext (by blk_simp [e6])
  rw [h0, h1]
  rfl

/-- The array of codes. -/
theorem final5 (c : Dev nD) : (dats m 0 c).arrAt 5 cfg0.N = fun i : S9216x1152.Idx => (arrays m c).codes (i 0) (i 1) := by
  refine (dats m 0 c).arrAt_eq_of_covers 5 _ (by decide +kernel) fun t hf y => ?_
  blk_simp
  rw [after0_5]
  obtain ⟨r, l, rfl⟩ : ∃ (r : Fin 256) (l : Fin 1152), y = ix2 r l := ⟨y 0, y 1, by funext a; fin_cases a <;> rfl⟩
  refine (out5_apply _ _ _ _ r l).trans ?_
  rw [row_eq]
  have h0 : (win0_5.blk t).view.emb (ix2 r l) 0 = gr t r := Fin.ext (by blk_simp [e5]; show t.val * 256 + r.val = 256 * t.val + r.val; omega)
  have h1 : (win0_5.blk t).view.emb (ix2 r l) 1 = l := Fin.ext (by blk_simp [e5])
  rw [h0, h1]
  rfl

/-- The result array. -/
theorem final4 (c : Dev nD) : (dats m 0 c).arrAt 4 cfg0.N = fun i : S9216x1920.Idx => (arrays m c).y (i 0) (i 1) := by
  refine (dats m 0 c).arrAt_eq_of_covers 4 _ (by decide +kernel) fun t hf y => ?_
  blk_simp
  rw [after0_4]
  obtain ⟨r, l, rfl⟩ : ∃ (r : Fin 256) (l : Fin 1920), y = ix2 r l := ⟨y 0, y 1, by funext a; fin_cases a <;> rfl⟩
  refine (out4_apply _ _ _ _ r l).trans ?_
  rw [row_eq, iblk3]
  simp only [iblk1, iblk2]
  have h0 : (win0_4.blk t).view.emb (ix2 r l) 0 = gr t r := Fin.ext (by blk_simp [e4]; show t.val * 256 + r.val = 256 * t.val + r.val; omega)
  have h1 : (win0_4.blk t).view.emb (ix2 r l) 1 = l := Fin.ext (by blk_simp [e4])
  rw [h0, h1]
  rfl

/-- The run: the three result arrays at these, the arguments unchanged. -/
theorem run : θ_run defs (onTc (τ := τ) (main (F := Ideal))) ⟨m, fun _ => 0, ρ⟩ fun r => ∀ c : Dev nD,
      (r.2.mem ((c : Thread nD τ).loc main_v4_0) = (fun i : S9216x1920.Idx => (arrays m c).y (i 0) (i 1)))
      ∧ (r.2.mem ((c : Thread nD τ).loc main_v4_1) = (fun i : S9216x1152.Idx => (arrays m c).codes (i 0) (i 1)))
      ∧ (r.2.mem ((c : Thread nD τ).loc main_v4_2) = (fun i : S9216x9.Idx => (arrays m c).scales (i 0) (i 1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2.1.trans (final6 m c), (h c).2.2.2⟩)
    (Value.run_blocks m ρ)

end Cert.KernelIdeal.RefValue

end
-- ==== Proof.RefEntry.lean ====
/-
  The reference's values at an index, over the extended reals: the codes, the scales and the results, each as the row's
  functions of Proof/Spec.lean.
-/
module

public import proofs.«01_k».proof.Proof.Gen.ReferenceIdeal.Frame
public import proofs.«01_k».proof.Proof.Spec
public import Idealize.ShloMosaic.Lib.Pointwise

@[expose] public section

set_option maxRecDepth 16384

noncomputable section

namespace Cert.ReferenceIdeal.Entry

open Idealize.ShloMosaic Cert.ReferenceIdeal Cert.ReferenceIdeal.Gen Cert.Quant

section Values

variable {F : FTy → Type} [FloatOps F]

/-- The largest magnitude of each row's groups. -/
def amax (v : FVec F S9216x9x128 .f32) : FVec F S9216x9x1 .f32 :=
  shapeCast S9216x9x1 (multiReduction .maximumf [2] S9216x9 (absf v) 0xFF800000#32 reduces_S9216x9x128_S9216x9 (.inl rfl) rfl) shapeCasts_S9216x9_S9216x9x1

/-- The largest magnitude divided by the largest code. -/
def quo (a : FVec F S9216x9x1 .f32) : FVec F S9216x9x1 .f32 := mulf a (broadcast S9216x9x1 (Scalar.ofBits .f32 0x3B124925#32))

/-- The powers of two from `2 ^ -125` to `2 ^ 126`. -/
def powers : FVec F S1x1x252 .f32 :=
  exp2 (sitofp .f32 (subi (iota .tc S1x1x252 32 [2] iota_S1x1x252_d2_w32) (broadcast S1x1x252 125#32)))

/-- The least of the powers above the quotient. -/
def least (p : FVec F S9216x9x1 .f32) : FVec F S9216x9x1 .f32 :=
  shapeCast S9216x9x1 (multiReduction .minimumf [2] S9216x9
    (select (cmpf .olt (broadcastTo S9216x9x252 p broadcasts_S9216x9x1_S9216x9x252) (broadcastTo S9216x9x252 (powers (F := F)) broadcasts_S1x1x252_S9216x9x252))
      (broadcastTo S9216x9x252 (shapeCast S1x1x252 (powers (F := F)) shapeCasts_S1x1x252_S1x1x252) broadcasts_S1x1x252_S9216x9x252)
      (broadcast S9216x9x252 (Scalar.ofBits .f32 0x7E800000#32)))
    0x7F800000#32 reduces_S9216x9x252_S9216x9 (.inl rfl) rfl) shapeCasts_S9216x9_S9216x9x1

/-- The scale: one for a quotient that is infinite or below the normal numbers and for a magnitude of zero. -/
def scale (a : FVec F S9216x9x1 .f32) (q : FVec F S9216x9x1 .f32) (l : FVec F S9216x9x1 .f32) : FVec F S9216x9x1 .f32 :=
  select (cmpf .oeq a (broadcast S9216x9x1 (Scalar.ofBits .f32 0x00000000#32))) (broadcast S9216x9x1 (Scalar.ofBits .f32 0x3F800000#32))
    (select (cmpf .olt q (broadcast S9216x9x1 (Scalar.ofBits .f32 0x7F800000#32)))
      (select (cmpf .olt q (broadcast S9216x9x1 (Scalar.ofBits .f32 0x00800000#32))) (broadcast S9216x9x1 (Scalar.ofBits .f32 0x3F800000#32)) l)
      (broadcast S9216x9x1 (Scalar.ofBits .f32 0x3F800000#32)))

/-- The codes: each element divided by its scale, clamped to the largest code. -/
def codes (v : FVec F S9216x9x128 .f32) (s : FVec F S9216x9x1 .f32) : FVec F S9216x9x128 .fp8e4m3 :=
  truncf .fp8e4m3 (minimumf (broadcast S9216x9x128 (Scalar.ofBits .f32 0x43E00000#32)) (maximumf (broadcast S9216x9x128 (Scalar.ofBits .f32 0xC3E00000#32))
    (mulf v (broadcastTo S9216x9x128 (divf (broadcast S9216x9x1 (Scalar.ofBits .f32 0x3F800000#32)) s) broadcasts_S9216x9x1_S9216x9x128)))) bitsLt_fp8e4m3_f32

/-- The printed scale, by these. -/
theorem pay5_eq (x : Vec F S9216x1152 .bf16) :
    k0_pay5 x = scale (amax (k0_pay4 x)) (quo (amax (k0_pay4 x))) (least (quo (amax (k0_pay4 x)))) := rfl

/-- The printed codes, by these. -/
theorem pay6_eq (x : Vec F S9216x1152 .bf16) : k0_pay6 x = codes (k0_pay4 x) (k0_pay5 x) := rfl

end Values

/-- The largest magnitude of group `g` of row `r`. -/
theorem amax_apply (v : FVec Ideal S9216x9x128 .f32) (r : Fin 9216) (g : Fin 9) (l : Fin 1) : amax v (ix3 r g l) = amx fun k => v (ix3 r g k) := by
  pointwise [amax]
  rfl

/-- The least power above a quotient. -/
theorem least_apply (p : FVec Ideal S9216x9x1 .f32) (r : Fin 9216) (g : Fin 9) (l : Fin 1) : least p (ix3 r g l) =
    Finset.fold min (Ideal.ofBits .f32 2139095040#32) (fun x : Fin 252 =>
      if p (ix3 r g l) < FloatOps.exp2 (F := Ideal) (φ := .f32) (FloatOps.sitofp (F := Ideal) .f32 (IntOp.subi (BitVec.ofNat 32 ↑x) 125#32)) then
        FloatOps.exp2 (F := Ideal) (φ := .f32) (FloatOps.sitofp (F := Ideal) .f32 (IntOp.subi (BitVec.ofNat 32 ↑x) 125#32))
      else Ideal.ofBits .f32 2122317824#32) Finset.univ := by
  obtain rfl : l = 0 := Subsingleton.elim _ _
  pointwise [least, powers]

/-- The scale from a magnitude, its quotient and the least power above it. -/
theorem scale_apply (a q m : FVec Ideal S9216x9x1 .f32) (r : Fin 9216) (g : Fin 9) (l : Fin 1) : scale a q m (ix3 r g l) =
    if a (ix3 r g l) = 0 then 1 else if q (ix3 r g l) < Ideal.ofBits .f32 2139095040#32 then
      if q (ix3 r g l) < Ideal.ofBits .f32 8388608#32 then 1 else m (ix3 r g l) else 1 := by
  pointwise [scale]

/-- A quotient. -/
theorem quo_apply (a : FVec Ideal S9216x9x1 .f32) (r : Fin 9216) (g : Fin 9) (l : Fin 1) :
    quo a (ix3 r g l) = a (ix3 r g l) * Ideal.ofBits .f32 991054117#32 := by
  pointwise [quo]

/-- A code. -/
theorem codes_apply (v : FVec Ideal S9216x9x128 .f32) (s : FVec Ideal S9216x9x1 .f32) (r : Fin 9216) (g : Fin 9) (k : Fin 128) :
    codes v s (ix3 r g k) = codeOf (s (ix3 r g 0)) (v (ix3 r g k)) := by
  pointwise [codes]
  rfl

variable (x : Vec Ideal S9216x1152 .bf16)

/-- Row `r` of the activations. -/
def row (r : Fin 9216) (j : Fin 1152) : EReal := x (ix2 r j)

/-- The activations by group. -/
theorem pay4_apply (r : Fin 9216) (g : Fin 9) (k : Fin 128) : k0_pay4 x (ix3 r g k) = row x r (col g k) := by
  pointwise [k0_pay4]
  show x _ = x _
  congr 2
  exact Fin.ext (by show g.1 * 128 + k.1 = 128 * g.1 + k.1; omega)

/-- The scales. -/
theorem pay5_apply (r : Fin 9216) (g : Fin 9) (l : Fin 1) : k0_pay5 x (ix3 r g l) = S (row x r) g := by
  rw [pay5_eq, scale_apply, least_apply, quo_apply, amax_apply]
  simp only [pay4_apply]
  rfl

/-- The codes by group. -/
theorem pay6_apply (r : Fin 9216) (g : Fin 9) (k : Fin 128) : k0_pay6 x (ix3 r g k) = C (row x r) g k := by
  rw [pay6_eq, codes_apply, pay5_apply, pay4_apply]
  rfl

/-- The stored codes. -/
theorem stored_codes_apply (r : Fin 9216) (j : Fin 1152) : k0_pay1 (k0_pay6 x) (ix2 r j) = CC (row x r) j := by
  pointwise [k0_pay1]
  rw [pay6_apply]
  rfl

/-- The stored scales. -/
theorem stored_scales_apply (r : Fin 9216) (g : Fin 9) : k0_pay2 (k0_pay5 x) (ix2 r g) = S (row x r) g := by
  pointwise [k0_pay2]
  rw [pay5_apply]

/-- The result from the scales, the codes, the weights, their scales and the residual. -/
theorem pay3_apply (s : FVec Ideal S9216x9x1 .f32) (c : FVec Ideal S9216x9x128 .fp8e4m3) (w : Vec Ideal S1152x1920 .fp8e4m3)
    (ws : Vec Ideal S9x1920 .f32) (y : Vec Ideal S9216x1920 .bf16) (r : Fin 9216) (l : Fin 1920) :
    k0_pay3 s c w ws y (ix2 r l) = (∑ g : Fin 9, (∑ k : Fin 128, c (ix3 r g k) * w (ix2 (col g k) l)) * s (ix3 r g 0) * ws (ix2 g l)) + y (ix2 r l) := by
  pointwise [k0_pay3]
  have e : ∀ (g : Fin 9) (k : Fin 128) (h : g.1 * 128 + k.1 < 1152), (⟨g.1 * 128 + k.1, h⟩ : Fin 1152) = col g k :=
    fun g k _ => Fin.ext (by show g.1 * 128 + k.1 = 128 * g.1 + k.1; omega)
  simp only [e]

variable (x1 : Vec Ideal S1152x1920 .fp8e4m3) (x2 : Vec Ideal S9x1920 .f32) (x3 : Vec Ideal S9216x1920 .bf16)

/-- The offset of an array stored or loaded whole. -/
theorem zero_off : (![0, 0] : Fin 2 → Nat) = fun _ => 0 := by funext a; fin_cases a <;> rfl

/-- The stored scales. -/
theorem out6_apply (r : Fin 9216) (g : Fin 9) : out0_6 x x1 x2 x3 (ix2 r g) = S (row x r) g := by
  rw [out0_6, k0_pay7, View.canon_unit_zero, View.ld_unit_zero, stored_scales_apply]
  all_goals exact zero_off

/-- The stored codes. -/
theorem out5_apply (r : Fin 9216) (j : Fin 1152) : out0_5 x x1 x2 x3 (ix2 r j) = CC (row x r) j := by
  rw [out0_5, k0_pay8, View.canon_unit_zero, View.ld_unit_zero, stored_codes_apply]
  all_goals exact zero_off

/-- The stored result. -/
theorem out4_apply (r : Fin 9216) (l : Fin 1920) :
    out0_4 x x1 x2 x3 (ix2 r l) = Y (row x r) (fun j => x1 (ix2 j l)) (fun g => x2 (ix2 g l)) (x3 (ix2 r l)) := by
  rw [out0_4, k0_pay7, k0_pay8, View.canon_unit_zero, View.ld_unit_zero, View.ld_unit_zero, View.ld_unit_zero, View.ld_unit_zero, pay3_apply]
  · simp only [pay5_apply, pay6_apply]
    rfl
  all_goals exact zero_off

end Cert.ReferenceIdeal.Entry

end
-- ==== Proof.ReferenceValue.lean ====
/-
  The reference's three result arrays after its run, over the extended reals: its one point stores them whole.
-/
module

public import proofs.«01_k».proof.Proof.RefEntry
public import proofs.«01_k».proof.Proof.Gen.ReferenceIdeal.Value
public import Idealize.ShloMosaic.Lib.Pipeline.ValueKit
public import Idealize.ShloMosaic.Lib.StableHlo.ReadAt

@[expose] public section

set_option maxRecDepth 16384

noncomputable section

namespace Cert.ReferenceIdeal.RefValue

open Idealize.ShloMosaic Idealize.ShloMosaic.TcCoe Idealize.SL.Sem
open Idealize.ShloMosaic.Pipeline (Dat)
open Cert.ReferenceIdeal Cert.ReferenceIdeal.Gen Cert.ReferenceIdeal.Entry Cert.Quant

variable (m : (ℓ : Loc nD τ sig) → Buf (Elt Ideal) ℓ) (ρ : Dev nD → PrngReg)

/-- The arrays the reference is called on, from the arguments. -/
def arrays (c : Dev nD) : Arrays :=
  Arrays.of (fun a b j => m ((c : Thread nD τ).loc main_arg0) (ix3 a b j)) (fun j l => m ((c : Thread nD τ).loc main_arg1) (ix2 j l))
    (fun g k => m ((c : Thread nD τ).loc main_arg2) (ix2 g k)) (fun a b l => m ((c : Thread nD τ).loc main_arg3) (ix3 a b l))

/-- The activations the region finds. -/
theorem v2_eq (c : Dev nD) (r : Fin 9216) (j : Fin 1152) : V m c main_v2 (ix2 r j) = (arrays m c).x r j := by
  unfold V
  after_reads_at
  rfl

/-- The weights the region finds. -/
theorem arg1_eq (c : Dev nD) (j : Fin 1152) (l : Fin 1920) : V m c main_arg1 (ix2 j l) = (arrays m c).w j l := by
  rw [V_main_arg1]
  rfl

/-- The weights' scales the region finds. -/
theorem v1_eq (c : Dev nD) (g : Fin 9) (l : Fin 1920) : V m c main_v1 (ix2 g l) = (arrays m c).ws g l := by
  unfold V
  after_reads_at
  rfl

/-- The residual the region finds. -/
theorem v3_eq (c : Dev nD) (r : Fin 9216) (l : Fin 1920) : V m c main_v3 (ix2 r l) = (arrays m c).res r l := by
  unfold V
  after_reads_at
  rfl

/-- The one block of the activations: the array. -/
theorem e0 : ∀ t : Fin cfg0.N, win0_0.index t = ![0, 0] := (by decide +kernel : ∀ t : Fin grid0.N, win0_0.index t = ![0, 0])
/-- The one block of the weights: the array. -/
theorem e1 : ∀ t : Fin cfg0.N, win0_1.index t = ![0, 0] := (by decide +kernel : ∀ t : Fin grid0.N, win0_1.index t = ![0, 0])
/-- The one block of the weights' scales: the array. -/
theorem e2 : ∀ t : Fin cfg0.N, win0_2.index t = ![0, 0] := (by decide +kernel : ∀ t : Fin grid0.N, win0_2.index t = ![0, 0])
/-- The one block of the residual: the array. -/
theorem e3 : ∀ t : Fin cfg0.N, win0_3.index t = ![0, 0] := (by decide +kernel : ∀ t : Fin grid0.N, win0_3.index t = ![0, 0])
/-- The one block of the result: the array. -/
theorem e4 : ∀ t : Fin cfg0.N, win0_4.index t = ![0, 0] := (by decide +kernel : ∀ t : Fin grid0.N, win0_4.index t = ![0, 0])
/-- The one block of the codes: the array. -/
theorem e5 : ∀ t : Fin cfg0.N, win0_5.index t = ![0, 0] := (by decide +kernel : ∀ t : Fin grid0.N, win0_5.index t = ![0, 0])
/-- The one block of the scales: the array. -/
theorem e6 : ∀ t : Fin cfg0.N, win0_6.index t = ![0, 0] := (by decide +kernel : ∀ t : Fin grid0.N, win0_6.index t = ![0, 0])

/-- The block of the activations. -/
theorem iblk0 (c : Dev nD) (t : Fin cfg0.N) (r : Fin 9216) (j : Fin 1152) :
    (iblk m c 0 t : Vec Ideal S9216x1152 .bf16) (ix2 r j) = (arrays m c).x r j := by
  rw [← v2_eq]
  blk_simp [iblk]
  congr 1
  blk_ext [e0]

/-- The block of the weights. -/
theorem iblk1 (c : Dev nD) (t : Fin cfg0.N) (j : Fin 1152) (l : Fin 1920) :
    (iblk m c 1 t : Vec Ideal S1152x1920 .fp8e4m3) (ix2 j l) = (arrays m c).w j l := by
  rw [← arg1_eq]
  blk_simp [iblk]
  congr 1
  blk_ext [e1]

/-- The block of the weights' scales. -/
theorem iblk2 (c : Dev nD) (t : Fin cfg0.N) (g : Fin 9) (l : Fin 1920) :
    (iblk m c 2 t : Vec Ideal S9x1920 .f32) (ix2 g l) = (arrays m c).ws g l := by
  rw [← v1_eq]
  blk_simp [iblk]
  congr 1
  blk_ext [e2]

/-- The block of the residual. -/
theorem iblk3 (c : Dev nD) (t : Fin cfg0.N) (r : Fin 9216) (l : Fin 1920) :
    (iblk m c 3 t : Vec Ideal S9216x1920 .bf16) (ix2 r l) = (arrays m c).res r l := by
  rw [← v3_eq]
  blk_simp [iblk]
  congr 1
  blk_ext [e3]

/-- A row of the block of the activations. -/
theorem row_eq (c : Dev nD) (t : Fin cfg0.N) (r : Fin 9216) : row (iblk m c 0 t) r = (arrays m c).x r :=
  funext fun j => iblk0 m c t r j

/-- The array of scales. -/
theorem final6 (c : Dev nD) : (dats m 0 c).arrAt 6 cfg0.N = fun i : S9216x9.Idx => (arrays m c).scales (i 0) (i 1) := by
  refine (dats m 0 c).arrAt_eq_of_covers 6 _ (by decide +kernel) fun t hf y => ?_
  blk_simp
  rw [after0_6]
  obtain ⟨r, l, rfl⟩ : ∃ (r : Fin 9216) (l : Fin 9), y = ix2 r l := ⟨y 0, y 1, by funext a; fin_cases a <;> rfl⟩
  refine (out6_apply _ _ _ _ r l).trans ?_
  rw [row_eq]
  have h0 : (win0_6.blk t).view.emb (ix2 r l) 0 = r := Fin.ext (by blk_simp [e6])
  have h1 : (win0_6.blk t).view.emb (ix2 r l) 1 = l := Fin.ext (by blk_simp [e6])
  rw [h0, h1]
  rfl

/-- The array of codes. -/
theorem final5 (c : Dev nD) : (dats m 0 c).arrAt 5 cfg0.N = fun i : S9216x1152.Idx => (arrays m c).codes (i 0) (i 1) := by
  refine (dats m 0 c).arrAt_eq_of_covers 5 _ (by decide +kernel) fun t hf y => ?_
  blk_simp
  rw [after0_5]
  obtain ⟨r, l, rfl⟩ : ∃ (r : Fin 9216) (l : Fin 1152), y = ix2 r l := ⟨y 0, y 1, by funext a; fin_cases a <;> rfl⟩
  refine (out5_apply _ _ _ _ r l).trans ?_
  rw [row_eq]
  have h0 : (win0_5.blk t).view.emb (ix2 r l) 0 = r := Fin.ext (by blk_simp [e5])
  have h1 : (win0_5.blk t).view.emb (ix2 r l) 1 = l := Fin.ext (by blk_simp [e5])
  rw [h0, h1]
  rfl

/-- The result array. -/
theorem final4 (c : Dev nD) : (dats m 0 c).arrAt 4 cfg0.N = fun i : S9216x1920.Idx => (arrays m c).y (i 0) (i 1) := by
  refine (dats m 0 c).arrAt_eq_of_covers 4 _ (by decide +kernel) fun t hf y => ?_
  blk_simp
  rw [after0_4]
  obtain ⟨r, l, rfl⟩ : ∃ (r : Fin 9216) (l : Fin 1920), y = ix2 r l := ⟨y 0, y 1, by funext a; fin_cases a <;> rfl⟩
  refine (out4_apply _ _ _ _ r l).trans ?_
  rw [row_eq, iblk3]
  simp only [iblk1, iblk2]
  have h0 : (win0_4.blk t).view.emb (ix2 r l) 0 = r := Fin.ext (by blk_simp [e4])
  have h1 : (win0_4.blk t).view.emb (ix2 r l) 1 = l := Fin.ext (by blk_simp [e4])
  rw [h0, h1]
  rfl

/-- The run: the three result arrays at these, the arguments unchanged. -/
theorem run : θ_run defs (onTc (τ := τ) (main (F := Ideal))) ⟨m, fun _ => 0, ρ⟩ fun r => ∀ c : Dev nD,
      (r.2.mem ((c : Thread nD τ).loc main_v4_0) = (fun i : S9216x1920.Idx => (arrays m c).y (i 0) (i 1)))
      ∧ (r.2.mem ((c : Thread nD τ).loc main_v4_1) = (fun i : S9216x1152.Idx => (arrays m c).codes (i 0) (i 1)))
      ∧ (r.2.mem ((c : Thread nD τ).loc main_v4_2) = (fun i : S9216x9.Idx => (arrays m c).scales (i 0) (i 1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2.1.trans (final6 m c), (h c).2.2.2⟩)
    (Value.run_blocks m ρ)

end Cert.ReferenceIdeal.RefValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.KernelValue
public import proofs.«01_k».proof.Proof.ReferenceValue
public import Idealize.ShloMosaic.Adequacy
public import Idealize.ShloMosaic.Init

@[expose] public section

noncomputable section

namespace Cert.Proof

open Idealize.ShloMosaic Idealize.SL.Sem Cert.Kernel

/-- The kernel, on floats as the machine has them, runs and leaves its arguments. -/
theorem frame_kernel : Cert.quiescent_Kernel := fun m ρ _ => Cert.Kernel.Gen.frame m ρ

/-- The kernel, on extended reals, runs and leaves its arguments. -/
theorem frame_kernelIdeal : Cert.quiescent_KernelIdeal := fun m ρ _ => Cert.KernelIdeal.Gen.frame m ρ

/-- The reference, on extended reals, runs and leaves its arguments. -/
theorem frame_referenceIdeal : Cert.quiescent_ReferenceIdeal := fun m ρ _ => Cert.ReferenceIdeal.Gen.frame m ρ

/-- The ideal pass rewrote no operation of the kernel. -/
theorem preserves : Cert.preserves_Kernel_KernelIdeal := trivial

/-- On equal arguments the kernel and the reference, on extended reals, end at equal results: the product with the
    residual added, the codes of the activations, and their scales. -/
theorem algebraic : Cert.algebraic_KernelIdeal_ReferenceIdeal := by
  intro m ρ m' ρ' _ hagree
  have harrays : ∀ c, Cert.ReferenceIdeal.RefValue.arrays m' c = Cert.KernelIdeal.RefValue.arrays m c := by
    intro c
    unfold Cert.ReferenceIdeal.RefValue.arrays Cert.KernelIdeal.RefValue.arrays
    rw [(hagree c).1, (hagree c).2.1, (hagree c).2.2.1, (hagree c).2.2.2]
  refine ⟨fun c => fun i => (Cert.KernelIdeal.RefValue.arrays m c).y (i 0) (i 1),
    fun c => fun i => (Cert.KernelIdeal.RefValue.arrays m c).codes (i 0) (i 1),
    fun c => fun i => (Cert.KernelIdeal.RefValue.arrays m c).scales (i 0) (i 1),
    Cert.KernelIdeal.RefValue.run m ρ, ?_⟩
  refine (θ_run Cert.ReferenceIdeal.defs _ _).mono (fun r h c => ?_) (Cert.ReferenceIdeal.RefValue.run m' ρ')
  have h := h c
  rw [harrays c] at h
  exact h

/-- Every claim of the certificate. -/
theorem claim : Cert.Claim := ⟨Cert.Kernel.Gen.facts, Cert.KernelIdeal.Gen.facts, Cert.ReferenceIdeal.Gen.facts,
  frame_kernel, frame_kernelIdeal, frame_referenceIdeal, preserves, algebraic⟩

end Cert.Proof

end
